-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x24x7 : Shape := ⟨3, ![8192, 24, 7]⟩
abbrev S8192x512 : Shape := ⟨2, ![8192, 512]⟩
abbrev S8192x1 : Shape := ⟨2, ![8192, 1]⟩
abbrev S2048x8 : Shape := ⟨2, ![2048, 8]⟩
abbrev S2048x512 : Shape := ⟨2, ![2048, 512]⟩
abbrev S2048 : Shape := ⟨1, ![2048]⟩
abbrev S1x512 : Shape := ⟨2, ![1, 512]⟩
abbrev S1 : Shape := ⟨1, ![1]⟩
abbrev S8x2048 : Shape := ⟨2, ![8, 2048]⟩
abbrev S1x2048 : Shape := ⟨2, ![1, 2048]⟩
abbrev S9x2048 : Shape := ⟨2, ![9, 2048]⟩
abbrev S_ : Shape := ⟨0, ![]⟩
abbrev S2048x1 : Shape := ⟨2, ![2048, 1]⟩
abbrev S512x2048 : Shape := ⟨2, ![512, 2048]⟩
abbrev S1x1 : Shape := ⟨2, ![1, 1]⟩
abbrev S8192x168 : Shape := ⟨2, ![8192, 168]⟩
abbrev S8192x24 : Shape := ⟨2, ![8192, 24]⟩
abbrev S1024x168 : Shape := ⟨2, ![1024, 168]⟩
abbrev S1024x512 : Shape := ⟨2, ![1024, 512]⟩
abbrev S1024x1 : Shape := ⟨2, ![1024, 1]⟩
abbrev S1024x24 : Shape := ⟨2, ![1024, 24]⟩
abbrev S8x128 : Shape := ⟨2, ![8, 128]⟩
abbrev S512x1 : Shape := ⟨2, ![512, 1]⟩
abbrev S512x512 : Shape := ⟨2, ![512, 512]⟩
abbrev S512x128 : Shape := ⟨2, ![512, 128]⟩
abbrev S512x7 : Shape := ⟨2, ![512, 7]⟩
abbrev S512x9 : Shape := ⟨2, ![512, 9]⟩
abbrev S9x512 : Shape := ⟨2, ![9, 512]⟩
abbrev S1x128 : Shape := ⟨2, ![1, 128]⟩
abbrev S512 : Shape := ⟨1, ![512]⟩
abbrev S8192x24x1 : Shape := ⟨3, ![8192, 24, 1]⟩

abbrev nBuf : Space → Nat
  | .hbm => 40
  | .vmem => 15
  | .smem => 0
  | _ => 0

abbrev bufTy : (tb : Table) → Fin (tcTables nBuf tb) → BufTy
  | .hbm, ⟨0, _⟩ => ⟨S8192x24x7, .f32⟩
  | .hbm, ⟨1, _⟩ => ⟨S8192x512, .f32⟩
  | .hbm, ⟨2, _⟩ => ⟨S8192x512, .f32⟩
  | .hbm, ⟨3, _⟩ => ⟨S8192x1, .f32⟩
  | .hbm, ⟨4, _⟩ => ⟨S2048x8, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S1x512, .f32⟩
  | .hbm, ⟨9, _⟩ => ⟨S1, .f32⟩
  | .hbm, ⟨10, _⟩ => ⟨S2048, .i32⟩
  | .hbm, ⟨11, _⟩ => ⟨S8x2048, .f32⟩
  | .hbm, ⟨12, _⟩ => ⟨S2048, .f32⟩
  | .hbm, ⟨13, _⟩ => ⟨S1x2048, .f32⟩
  | .hbm, ⟨14, _⟩ => ⟨S9x2048, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S9x2048, .f32⟩
  | .hbm, ⟨24, _⟩ => ⟨S9x2048, .bf16⟩
  | .hbm, ⟨25, _⟩ => ⟨S512x2048, .f32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S512x2048, .f32⟩
  | .hbm, ⟨35, _⟩ => ⟨S512x2048, .bf16⟩
  | .hbm, ⟨36, _⟩ => ⟨S1x1, .f32⟩
  | .hbm, ⟨37, _⟩ => ⟨S8192x168, .f32⟩
  | .hbm, ⟨38, _⟩ => ⟨S8192x24, .f32⟩
  | .hbm, ⟨39, _⟩ => ⟨S8192x24x1, .f32⟩
  | .local _ .vmem, ⟨0, _⟩ => ⟨S1024x168, .f32⟩
  | .local _ .vmem, ⟨1, _⟩ => ⟨S1024x168, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S9x2048, .bf16⟩
  | .local _ .vmem, ⟨9, _⟩ => ⟨S512x2048, .bf16⟩
  | .local _ .vmem, ⟨10, _⟩ => ⟨S1x512, .f32⟩
  | .local _ .vmem, ⟨11, _⟩ => ⟨S1x1, .f32⟩
  | .local _ .vmem, ⟨12, _⟩ => ⟨S1024x24, .f32⟩
  | .local _ .vmem, ⟨13, _⟩ => ⟨S1024x24, .f32⟩
  | .local _ .vmem, ⟨14, _⟩ => ⟨S8x128, .f32⟩
  | _, _ => ⟨S8192x24x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x24x7 : Shape := ⟨3, ![8192, 24, 7]⟩
abbrev S8192x512 : Shape := ⟨2, ![8192, 512]⟩
abbrev S8192x1 : Shape := ⟨2, ![8192, 1]⟩
abbrev S2048x8 : Shape := ⟨2, ![2048, 8]⟩
abbrev S2048x512 : Shape := ⟨2, ![2048, 512]⟩
abbrev S2048 : Shape := ⟨1, ![2048]⟩
abbrev S1x512 : Shape := ⟨2, ![1, 512]⟩
abbrev S1 : Shape := ⟨1, ![1]⟩
abbrev S24x8192x7 : Shape := ⟨3, ![24, 8192, 7]⟩
abbrev S_ : Shape := ⟨0, ![]⟩
abbrev S24x8192x1 : Shape := ⟨3, ![24, 8192, 1]⟩
abbrev S1x8192x7 : Shape := ⟨3, ![1, 8192, 7]⟩
abbrev S8192x7 : Shape := ⟨2, ![8192, 7]⟩
abbrev S8192x8 : Shape := ⟨2, ![8192, 8]⟩
abbrev S8x2048 : Shape := ⟨2, ![8, 2048]⟩
abbrev S8192x2048 : Shape := ⟨2, ![8192, 2048]⟩
abbrev S1x2048 : Shape := ⟨2, ![1, 2048]⟩
abbrev S512x2048 : Shape := ⟨2, ![512, 2048]⟩
abbrev S512x1 : Shape := ⟨2, ![512, 1]⟩
abbrev S1x1 : Shape := ⟨2, ![1, 1]⟩
abbrev S1x8192x1 : Shape := ⟨3, ![1, 8192, 1]⟩
abbrev S8192x24x1 : Shape := ⟨3, ![8192, 24, 1]⟩

abbrev nBuf : Space → Nat
  | .hbm => 98
  | .vmem => 0
  | .smem => 0
  | _ => 0

abbrev bufTy : (tb : Table) → Fin (tcTables nBuf tb) → BufTy
  | .hbm, ⟨0, _⟩ => ⟨S8192x24x7, .f32⟩
  | .hbm, ⟨1, _⟩ => ⟨S8192x512, .f32⟩
  | .hbm, ⟨2, _⟩ => ⟨S8192x512, .f32⟩
  | .hbm, ⟨3, _⟩ => ⟨S8192x1, .f32⟩
  | .hbm, ⟨4, _⟩ => ⟨S2048x8, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S1x512, .f32⟩
  | .hbm, ⟨9, _⟩ => ⟨S1, .f32⟩
  | .hbm, ⟨10, _⟩ => ⟨S24x8192x7, .f32⟩
  | .hbm, ⟨11, _⟩ => ⟨S_, .f32⟩
  | .hbm, ⟨12, _⟩ => ⟨S24x8192x1, .f32⟩
  | .hbm, ⟨13, _⟩ => ⟨S_, .i32⟩
  | .hbm, ⟨14, _⟩ => ⟨S24x8192x7, .f32⟩
  | .hbm, ⟨15, _⟩ => ⟨S2048x8, .f32⟩
  | .hbm, ⟨16, _⟩ => ⟨S2048, .f32⟩
  | .hbm, ⟨17, _⟩ => ⟨S2048x512, .f32⟩
  | .hbm, ⟨18, _⟩ => ⟨S2048, .f32⟩
  | .hbm, ⟨19, _⟩ => ⟨S1x512, .f32⟩
  | .hbm, ⟨20, _⟩ => ⟨S1, .f32⟩
  | .hbm, ⟨21, _⟩ => ⟨S_, .i32⟩
  | .hbm, ⟨22, _⟩ => ⟨S8192x512, .f32⟩
  | .hbm, ⟨23, _⟩ => ⟨S8192x512, .f32⟩
  | .hbm, ⟨24, _⟩ => ⟨S8192x1, .f32⟩
  | .hbm, ⟨25, _⟩ => ⟨S24x8192x1, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x8192x7, .f32⟩
  | .hbm, ⟨31, _⟩ => ⟨S8192x7, .f32⟩
  | .hbm, ⟨32, _⟩ => ⟨S8192x8, .f32⟩
  | .hbm, ⟨33, _⟩ => ⟨S8x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S512x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S512x1, .f32⟩
  | .hbm, ⟨79, _⟩ => ⟨S8192x1, .f32⟩
  | .hbm, ⟨80, _⟩ => ⟨S1x1, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S1x8192x1, .f32⟩
  | .hbm, ⟨92, _⟩ => ⟨S_, .i32⟩
  | .hbm, ⟨93, _⟩ => ⟨S_, .i32⟩
  | .hbm, ⟨94, _⟩ => ⟨S24x8192x1, .f32⟩
  | .hbm, ⟨95, _⟩ => ⟨S_, .i32⟩
  | .hbm, ⟨96, _⟩ => ⟨S_, .i32⟩
  | .hbm, ⟨97, _⟩ => ⟨S8192x24x1, .f32⟩
  | _, _ => ⟨S8192x24x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev main_v2_6 : Ref sig .tc := ⟨.hbm, 20, rfl⟩
abbrev main_v2_7 : Ref sig .tc := ⟨.hbm, 21, rfl⟩
abbrev main_v2_8 : Ref sig .tc := ⟨.hbm, 22, rfl⟩
abbrev main_v2_9 : Ref sig .tc := ⟨.hbm, 23, rfl⟩
abbrev main_v2_10 : Ref sig .tc := ⟨.hbm, 24, rfl⟩
abbrev main_v2_11 : Ref sig .tc := ⟨.hbm, 25, rfl⟩
abbrev main_while0c_c_11 : Ref sig .tc := ⟨.hbm, 26, rfl⟩
abbrev main_while0c_v4 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v4 : Ref sig .tc := ⟨.hbm, 31, rfl⟩
abbrev main_while0b_v5 : Ref sig .tc := ⟨.hbm, 32, rfl⟩
abbrev main_while0b_v6 : Ref sig .tc := ⟨.hbm, 33, rfl⟩
abbrev main_while0b_v7 : Ref sig .tc := ⟨.hbm, 34, rfl⟩
abbrev main_while0b_v8 : Ref sig .tc := ⟨.hbm, 35, rfl⟩
abbrev main_while0b_v9 : Ref sig .tc := ⟨.hbm, 36, rfl⟩
abbrev main_while0b_v10 : Ref sig .tc := ⟨.hbm, 37, rfl⟩
abbrev main_while0b_v11 : Ref sig .tc := ⟨.hbm, 38, rfl⟩
abbrev main_while0b_v12 : Ref sig .tc := ⟨.hbm, 39, rfl⟩
abbrev main_while0b_v13 : Ref sig .tc := ⟨.hbm, 40, rfl⟩
abbrev main_while0b_v14 : Ref sig .tc := ⟨.hbm, 41, rfl⟩
abbrev main_while0b_v15 : Ref sig .tc := ⟨.hbm, 42, rfl⟩
abbrev main_while0b_v16 : Ref sig .tc := ⟨.hbm, 43, rfl⟩
abbrev main_while0b_v17 : Ref sig .tc := ⟨.hbm, 44, rfl⟩
abbrev main_while0b_v18 : Ref sig .tc := ⟨.hbm, 45, rfl⟩
abbrev main_while0b_v19 : Ref sig .tc := ⟨.hbm, 46, rfl⟩
abbrev main_while0b_v20 : Ref sig .tc := ⟨.hbm, 47, rfl⟩
abbrev main_while0b_v21 : Ref sig .tc := ⟨.hbm, 48, rfl⟩
abbrev main_while0b_v22 : Ref sig .tc := ⟨.hbm, 49, rfl⟩
abbrev main_while0b_cst_11 : Ref sig .tc := ⟨.hbm, 50, rfl⟩
abbrev main_while0b_v23 : Ref sig .tc := ⟨.hbm, 51, rfl⟩
abbrev main_while0b_v24 : Ref sig .tc := ⟨.hbm, 52, rfl⟩
abbrev main_while0b_cst_12 : Ref sig .tc := ⟨.hbm, 53, rfl⟩
abbrev main_while0b_v25 : Ref sig .tc := ⟨.hbm, 54, rfl⟩
abbrev main_while0b_v26 : Ref sig .tc := ⟨.hbm, 55, rfl⟩
abbrev main_while0b_v27 : Ref sig .tc := ⟨.hbm, 56, rfl⟩
abbrev main_while0b_v28 : Ref sig .tc := ⟨.hbm, 57, rfl⟩
abbrev main_while0b_cst_13 : Ref sig .tc := ⟨.hbm, 58, rfl⟩
abbrev main_while0b_v29 : Ref sig .tc := ⟨.hbm, 59, rfl⟩
abbrev main_while0b_v30 : Ref sig .tc := ⟨.hbm, 60, rfl⟩
abbrev main_while0b_cst_14 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_cst_15 : Ref sig .tc := ⟨.hbm, 67, rfl⟩
abbrev main_while0b_v36 : Ref sig .tc := ⟨.hbm, 68, rfl⟩
abbrev main_while0b_v37 : Ref sig .tc := ⟨.hbm, 69, rfl⟩
abbrev main_while0b_cst_16 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_cst_17 : Ref sig .tc := ⟨.hbm, 85, rfl⟩
abbrev main_while0b_v52 : Ref sig .tc := ⟨.hbm, 86, rfl⟩
abbrev main_while0b_v53 : Ref sig .tc := ⟨.hbm, 87, rfl⟩
abbrev main_while0b_cst_18 : Ref sig .tc := ⟨.hbm, 88, rfl⟩
abbrev main_while0b_v54 : Ref sig .tc := ⟨.hbm, 89, rfl⟩
abbrev main_while0b_v55 : Ref sig .tc := ⟨.hbm, 90, rfl⟩
abbrev main_while0b_call1_v0 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_v56 : Ref sig .tc := ⟨.hbm, 94, rfl⟩
abbrev main_while0b_c_19 : Ref sig .tc := ⟨.hbm, 95, rfl⟩
abbrev main_while0b_v57 : Ref sig .tc := ⟨.hbm, 96, rfl⟩
abbrev main_v3 : Ref sig .tc := ⟨.hbm, 97, rfl⟩

abbrev nD : Nat := 1
abbrev τ : Topo := Topo.v7x

variable {F : FTy → Type} [FloatOps F]

abbrev main_while0_count : Scf.Loop 32 := ⟨0#32, 24#32, 1#32⟩
-- ==== Proof.Row.lean ====
/- The decoder of one row over the extended reals. -/
module

public import Idealize.ShloMosaic.Lib.Pointwise

@[expose] public section

set_option maxRecDepth 16384

noncomputable section

namespace Cert.Decoder

open Idealize.ShloMosaic

/-! ## The logistic -/

/-- The kernel's constant one half denotes the real number one half. -/
theorem ofBits_half : Ideal.ofBits .f32 0x3F000000#32 = ((1 / 2 : ℝ) : EReal) := by
  simp [Ideal.ofBits, Ideal.ieee, -EReal.coe_mul]; norm_num

/-- The hyperbolic tangent of half a real number, halved and shifted, is the logistic of the number. -/
theorem real_logistic (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have hinv : Real.exp (1 / 2 * r) * Real.exp (-(1 / 2 * r)) = 1 := by
    rw [← Real.exp_add]; simp
  have ha := Real.exp_pos (1 / 2 * r)
  have hb := Real.exp_pos (-(1 / 2 * r))
  rw [Real.tanh_eq_sinh_div_cosh, Real.sinh_eq, Real.cosh_eq, e]
  generalize Real.exp (1 / 2 * r) = a at *
  generalize Real.exp (-(1 / 2 * r)) = b at *
  have h1 : a + b ≠ 0 := by positivity
  have h2 : 1 + b * b ≠ 0 := by positivity
  field_simp
  linear_combination (2 * b) * hinv

/-- `0.5 * tanh (0.5 * x) + 0.5` is the logistic of `x`, at the infinities too. -/
theorem half_tanh_half (x : EReal) :
    Ideal.ofBits .f32 0x3F000000#32 * Ideal.tanh (Ideal.ofBits .f32 0x3F000000#32 * x) + Ideal.ofBits .f32 0x3F000000#32
      = Ideal.logistic x := by
  rw [ofBits_half]
  induction x with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | top =>
    rw [EReal.coe_mul_top_of_pos (by norm_num), Ideal.tanh_top, Ideal.logistic_top, mul_one]
    norm_cast; norm_num
  | coe r =>
    rw [← EReal.coe_mul, Ideal.tanh_coe, ← EReal.coe_mul, ← EReal.coe_add, Ideal.logistic_coe, real_logistic]

/-! ## One row -/

/-- The decoder's parameters, as the arrays they are passed in. -/
structure Params where
  wih : (⟨2, ![2048, 8]⟩ : Shape).Idx → EReal
  whh : (⟨2, ![2048, 512]⟩ : Shape).Idx → EReal
  bih : (⟨1, ![2048]⟩ : Shape).Idx → EReal
  bhh : (⟨1, ![2048]⟩ : Shape).Idx → EReal
  fcw : (⟨2, ![1, 512]⟩ : Shape).Idx → EReal
  fcb : (⟨1, ![1]⟩ : Shape).Idx → EReal

/-- What one row carries from step to step. -/
structure Row where
  h : Fin 512 → EReal
  c : Fin 512 → EReal
  y : EReal

/-- Gate column `k` of a row before its activation: input product, input bias, recurrent product, recurrent bias. -/
def gate (P : Params) (R : Row) (x : Fin 7 → EReal) (k : Fin 2048) : EReal :=
  (((∑ i : Fin 7, x i * P.wih (ix2 k (i.castLE (by decide)))) + R.y * P.wih (ix2 k 7)) + P.bih (ix1 k)
    + ∑ i : Fin 512, R.h i * P.whh (ix2 k i)) + P.bhh (ix1 k)

/-- Column `i` of gate number `g` (input, forget, cell, output) among the 2048 gate columns. -/
def col (g : Fin 4) (i : Fin 512) : Fin 2048 := ⟨512 * g.val + i.val, by omega⟩

/-- The new cell state of a row. -/
def rowC (P : Params) (R : Row) (x : Fin 7 → EReal) (i : Fin 512) : EReal :=
  Ideal.logistic (gate P R x (col 1 i)) * R.c i
    + Ideal.logistic (gate P R x (col 0 i)) * Ideal.tanh (gate P R x (col 2 i))

/-- The new hidden state of a row. -/
def rowH (P : Params) (R : Row) (x : Fin 7 → EReal) (i : Fin 512) : EReal :=
  Ideal.logistic (gate P R x (col 3 i)) * Ideal.tanh (rowC P R x i)

/-- The step's result of a row. -/
def rowLogit (P : Params) (R : Row) (x : Fin 7 → EReal) : EReal :=
  (∑ i : Fin 512, rowH P R x i * P.fcw (ix2 0 i)) + P.fcb (ix1 0)

/-- The row after a step. -/
def rowNext (P : Params) (R : Row) (x : Fin 7 → EReal) : Row where
  h := rowH P R x
  c := rowC P R x
  y := Ideal.logistic (rowLogit P R x)

/-- The row before step `n`, of the row's covariates and the row before the first step. -/
def rowAt (P : Params) (R : Row) (xs : ℕ → Fin 7 → EReal) : ℕ → Row
  | 0 => R
  | n + 1 => rowNext P (rowAt P R xs n) (xs n)

/-! ## All rows -/

/-- The row `b` of the hidden state, the cell state and the first output. -/
def rowOf (h c : (⟨2, ![8192, 512]⟩ : Shape).Idx → EReal) (y : (⟨2, ![8192, 1]⟩ : Shape).Idx → EReal) (b : Fin 8192) : Row where
  h k := h (ix2 b k)
  c k := c (ix2 b k)
  y := y (ix2 b 0)

/-- The covariates of row `b` (read as zero after the last step). -/
def covs (x : (⟨3, ![8192, 24, 7]⟩ : Shape).Idx → EReal) (b : Fin 8192) (n : ℕ) (i : Fin 7) : EReal :=
  if hn : n < 24 then x (ix3 b ⟨n, hn⟩ i) else 0

/-- The result of row `b` at step `n`. -/
def decodedAt (P : Params) (x : (⟨3, ![8192, 24, 7]⟩ : Shape).Idx → EReal) (h c : (⟨2, ![8192, 512]⟩ : Shape).Idx → EReal)
    (y : (⟨2, ![8192, 1]⟩ : Shape).Idx → EReal) (b : Fin 8192) (n : ℕ) : EReal :=
  rowLogit P (rowAt P (rowOf h c y b) (covs x b) n) (covs x b n)

/-- The decoder of all rows: every step's result. -/
def decoded (P : Params) (x : (⟨3, ![8192, 24, 7]⟩ : Shape).Idx → EReal) (h c : (⟨2, ![8192, 512]⟩ : Shape).Idx → EReal)
    (y : (⟨2, ![8192, 1]⟩ : Shape).Idx → EReal) : (⟨3, ![8192, 24, 1]⟩ : Shape).Idx → EReal :=
  fun i => decodedAt P x h c y (i 0) (i 1).val

end Cert.Decoder
-- ==== Proof.Ref.lean ====
/- The reference's loop computes the decoder row by row. -/
module

public import proofs.«01_k».proof.Proof.Gen.ReferenceIdeal.Run
public import proofs.«01_k».proof.Proof.Row

@[expose] public section

set_option maxRecDepth 16384

noncomputable section

namespace Cert.ReferenceIdeal.Decoder

open Cert.Decoder Cert.ReferenceIdeal Cert.ReferenceIdeal.Gen Cert.ReferenceIdeal.Value Idealize.ShloMosaic Idealize.ShloMosaic.TcCoe Idealize.SL.Sem
open Idealize.ShloMosaic.StableHlo Idealize.ShloMosaic.HostLoop

/-- Before trip `n` of the loop the carried buffers hold, in row `b`, the row `R` and the results `ls` of the earlier steps; the
    covariates of the row are `xs` and the parameters `P`. -/
structure Carries (V : Valuation τ sig (Elt Ideal)) (P : Params) (b : Fin 8192) (xs : ℕ → Fin 7 → EReal) (ls : ℕ → EReal) (n : ℕ) (R : Row) : Prop where
  x : ∀ (k : Fin 24) (i : Fin 7), V (Proc.devRef .tc main_v2_0) (ix3 k b i) = xs k.val i
  wih : V (Proc.devRef .tc main_v2_1) = P.wih
  bih : V (Proc.devRef .tc main_v2_2) = P.bih
  whh : V (Proc.devRef .tc main_v2_3) = P.whh
  bhh : V (Proc.devRef .tc main_v2_4) = P.bhh
  fcw : V (Proc.devRef .tc main_v2_5) = P.fcw
  fcb : V (Proc.devRef .tc main_v2_6) = P.fcb
  ctr : V (Proc.devRef .tc main_v2_7) = fun _ => BitVec.ofNat 32 n
  h : ∀ k : Fin 512, V (Proc.devRef .tc main_v2_8) (ix2 b k) = R.h k
  c : ∀ k : Fin 512, V (Proc.devRef .tc main_v2_9) (ix2 b k) = R.c k
  y : V (Proc.devRef .tc main_v2_10) (ix2 b 0) = R.y
  out : ∀ k : Fin 24, k.val < n → V (Proc.devRef .tc main_v2_11) (ix3 k b 0) = ls k.val

section Trip

variable {V : Valuation τ sig (Elt Ideal)} {P : Params} {b : Fin 8192} {xs : ℕ → Fin 7 → EReal} {ls : ℕ → EReal} {n : ℕ} {R : Row}
  (hV : Carries V P b xs ls n R) (hn : n < 24)
include hV hn

omit hV in
/-- The counter as an integer. -/
theorem toInt_ctr : (BitVec.ofNat 32 n).toInt = (n : ℤ) := by
  rw [BitVec.toInt_eq_toNat_of_lt] <;> rw [BitVec.toNat_ofNat] <;> omega

/-- Where a trip's slice of the covariates starts. -/
theorem start_eq : (fun k : Fin (Proc.devRef .tc main_v2_0 : DevRef τ sig).ty.shape.rank => (((![V (Proc.devRef .tc main_v2_7), constantI S_ 32 0#32, constantI S_ 32 0#32] : Fin 3 → (⟨S_, .i32⟩ : BufTy).Contents (Elt Ideal))) k (Shape.Idx.first h_S_)).toInt)
    = (![(n : ℤ), 0, 0] : Fin 3 → ℤ) := by
  funext k
  rw [hV.ctr]
  match k with
  | ⟨0, _⟩ => exact toInt_ctr hn
  | ⟨1, _⟩ => rfl
  | ⟨2, _⟩ => rfl

/-- Where a trip's update of the results starts. -/
theorem start_out_eq : (fun k : Fin (Proc.devRef .tc main_v2_11 : DevRef τ sig).ty.shape.rank => (((![V (Proc.devRef .tc main_v2_7), constantI S_ 32 0#32, constantI S_ 32 0#32] : Fin 3 → (⟨S_, .i32⟩ : BufTy).Contents (Elt Ideal))) k (Shape.Idx.first h_S_)).toInt)
    = (![(n : ℤ), 0, 0] : Fin 3 → ℤ) :=
  start_eq hV hn

omit hV in
/-- The slice's start lies inside the covariates on every axis: nothing is clamped. -/
theorem clamp_x (q : S1x8192x7.rank = (Proc.devRef .tc main_v2_0 : DevRef τ sig).ty.shape.rank) :
    Host.clampedStart (Proc.devRef .tc main_v2_0 : DevRef τ sig).ty.shape S1x8192x7 q ![(n : ℤ), 0, 0] 0 = n
    ∧ Host.clampedStart (Proc.devRef .tc main_v2_0 : DevRef τ sig).ty.shape S1x8192x7 q ![(n : ℤ), 0, 0] 1 = 0
    ∧ Host.clampedStart (Proc.devRef .tc main_v2_0 : DevRef τ sig).ty.shape S1x8192x7 q ![(n : ℤ), 0, 0] 2 = 0 :=
  ⟨Host.clampedStart_of_le _ _ _ n rfl (show n + 1 ≤ 24 by omega), Host.clampedStart_of_le _ _ _ 0 rfl (show 0 + 8192 ≤ 8192 by omega),
    Host.clampedStart_of_le _ _ _ 0 rfl (show 0 + 7 ≤ 7 by omega)⟩

omit hV in
/-- The update's start lies inside the results on every axis: nothing is clamped. -/
theorem clamp_out (q : S1x8192x1.rank = (Proc.devRef .tc main_v2_11 : DevRef τ sig).ty.shape.rank) :
    Host.clampedStart (Proc.devRef .tc main_v2_11 : DevRef τ sig).ty.shape S1x8192x1 q ![(n : ℤ), 0, 0] 0 = n
    ∧ Host.clampedStart (Proc.devRef .tc main_v2_11 : DevRef τ sig).ty.shape S1x8192x1 q ![(n : ℤ), 0, 0] 1 = 0
    ∧ Host.clampedStart (Proc.devRef .tc main_v2_11 : DevRef τ sig).ty.shape S1x8192x1 q ![(n : ℤ), 0, 0] 2 = 0 :=
  ⟨Host.clampedStart_of_le _ _ _ n rfl (show n + 1 ≤ 24 by omega), Host.clampedStart_of_le _ _ _ 0 rfl (show 0 + 8192 ≤ 8192 by omega),
    Host.clampedStart_of_le _ _ _ 0 rfl (show 0 + 1 ≤ 1 by omega)⟩

/-- The reference's gate columns of a row are the row's gates. -/
theorem v16_apply (k : Fin 2048) : res_main_while0b_v16 V (ix2 b k) = gate P R (xs n) k := by
  unfold res_main_while0b_v16
  rw [start_eq hV hn]
  pointwise
  simp only [(clamp_x hn _).1, (clamp_x hn _).2.1, (clamp_x hn _).2.2, Nat.zero_add, Fin.eta, Finset.univ_unique, Finset.sum_singleton]
  have hx : ∀ i : Fin 7, V (Proc.devRef .tc main_v2_0) (ix3 ⟨n, hn⟩ b i) = xs n i := fun i => hV.x ⟨n, hn⟩ i
  simp only [hx, hV.h, hV.y, hV.wih, hV.whh, hV.bih, hV.bhh]
  rfl

/-- The reference's new cell state of a row is the row's. -/
theorem v42_apply (k : Fin 512) : res_main_while0b_v42 V (ix2 b k) = rowC P R (xs n) k := by
  pointwise [res_main_while0b_v42]
  simp only [v16_apply hV hn, hV.c]
  have e0 : ∀ p, (⟨k.val, p⟩ : Fin 2048) = col 0 k := fun p => Fin.ext (show k.val = 512 * 0 + k.val by omega)
  simp only [e0]
  rfl

/-- The reference's new hidden state of a row is the row's. -/
theorem v44_apply (k : Fin 512) : res_main_while0b_v44 V (ix2 b k) = rowH P R (xs n) k := by
  pointwise [res_main_while0b_v44]
  simp only [v16_apply hV hn, v42_apply hV hn]
  rfl

/-- The reference's result of a step in a row is the row's. -/
theorem v49_apply : res_main_while0b_v49 V (ix2 b 0) = rowLogit P R (xs n) := by
  pointwise [res_main_while0b_v49]
  simp only [v44_apply hV hn, hV.fcw, hV.fcb]
  rfl

/-- One trip carries a row to the row after the step, and adds the step's result to the results. -/
theorem carries_step (hl : ls n = rowLogit P R (xs n)) : Carries (STEP V) P b xs ls (n + 1) (rowNext P R (xs n)) where
  x := by rw [STEP_main_v2_0]; exact hV.x
  wih := (STEP_main_v2_1 V).trans hV.wih
  bih := (STEP_main_v2_2 V).trans hV.bih
  whh := (STEP_main_v2_3 V).trans hV.whh
  bhh := (STEP_main_v2_4 V).trans hV.bhh
  fcw := (STEP_main_v2_5 V).trans hV.fcw
  fcb := (STEP_main_v2_6 V).trans hV.fcb
  ctr := by
    rw [STEP_main_v2_7, step_main_v2_7, hV.ctr]
    exact funext fun _ => (BitVec.ofNat_add n 1).symm
  h k := by rw [STEP_main_v2_8, step_main_v2_8]; exact v44_apply hV hn k
  c k := by rw [STEP_main_v2_9, step_main_v2_9]; exact v42_apply hV hn k
  y := by
    rw [STEP_main_v2_10]
    unfold step_main_v2_10
    rw [id_eq]
    pointwise
    rw [v49_apply hV hn]
    rfl
  out k hk := by
    rw [STEP_main_v2_11]
    unfold step_main_v2_11
    rw [id_eq, start_out_eq hV hn]
    pointwise
    by_cases hkn : k.val = n
    · rw [dif_pos]
      · simp only [(clamp_out hn _).2.1, Nat.sub_zero, Fin.eta]
        rw [v49_apply hV hn, hkn, hl]
      · intro a
        match a with
        | ⟨0, _⟩ =>
          refine (congrArg (fun z => z ≤ k.val ∧ k.val < z + 1) (clamp_out hn rfl).1).mpr ?_
          omega
        | ⟨1, _⟩ =>
          refine (congrArg (fun z => z ≤ b.val ∧ b.val < z + 8192) (clamp_out hn rfl).2.1).mpr ?_
          omega
        | ⟨2, _⟩ =>
          refine (congrArg (fun z => z ≤ 0 ∧ 0 < z + 1) (clamp_out hn rfl).2.2).mpr ?_
          omega
    · rw [dif_neg]
      · exact hV.out k (by omega)
      · intro hin
        have h0 := (hin ⟨0, Nat.zero_lt_succ 2⟩).1
        have h1 : n ≤ k.val := (clamp_out hn rfl).1 ▸ h0
        omega

end Trip

/-- Before every trip the carried buffers hold the row before that step and the earlier results. -/
theorem carries_iterate {V : Valuation τ sig (Elt Ideal)} {P : Params} {b : Fin 8192} {xs : ℕ → Fin 7 → EReal} {R : Row}
    (hV : Carries V P b xs (fun n => rowLogit P (rowAt P R xs n) (xs n)) 0 R) :
    ∀ n, n ≤ 24 → Carries (STEP^[n] V) P b xs (fun n => rowLogit P (rowAt P R xs n) (xs n)) n (rowAt P R xs n)
  | 0, _ => hV
  | n + 1, h => by
    rw [Function.iterate_succ_apply']
    exact carries_step (carries_iterate hV n (Nat.le_of_succ_le h)) h rfl

section Result

variable (m : (ℓ : Loc nD τ sig) → Buf (Elt Ideal) ℓ) (c : Dev nD)

/-- The parameters, of the reference's argument arrays. -/
def params : Params where
  wih := m ((c.tc : Thread nD τ).loc main_arg4)
  whh := m ((c.tc : Thread nD τ).loc main_arg5)
  bih := m ((c.tc : Thread nD τ).loc main_arg6)
  bhh := m ((c.tc : Thread nD τ).loc main_arg7)
  fcw := m ((c.tc : Thread nD τ).loc main_arg8)
  fcb := m ((c.tc : Thread nD τ).loc main_arg9)

/-- Before the first trip the carried buffers hold the arguments. -/
theorem carries_entry (b : Fin 8192) (ls : ℕ → EReal) : Carries (entryContents preI m c) (params m c) b
    (covs (m ((c.tc : Thread nD τ).loc main_arg0)) b) ls 0
    (rowOf (m ((c.tc : Thread nD τ).loc main_arg1)) (m ((c.tc : Thread nD τ).loc main_arg2)) (m ((c.tc : Thread nD τ).loc main_arg3)) b) := by
  simp only [entryContents, afterL_cons, afterL_nil]
  constructor
  · intro k i
    after_reads_simp
    rw [id_eq]
    pointwise
    rw [covs, dif_pos k.isLt]
  all_goals after_reads_simp
  all_goals first
    | rfl
    | exact fun _ => rfl
    | exact fun _ hk => absurd hk (Nat.not_lt_zero _)

/-- The reference's result is the decoder of all rows. -/
theorem out_eq : out_main_v3 (STEP^[24] (entryContents preI m c)) = decoded (params m c) (m ((c.tc : Thread nD τ).loc main_arg0))
    (m ((c.tc : Thread nD τ).loc main_arg1)) (m ((c.tc : Thread nD τ).loc main_arg2)) (m ((c.tc : Thread nD τ).loc main_arg3)) := by
  have key : ∀ (b : Fin 8192) (n : Fin 24), out_main_v3 (STEP^[24] (entryContents preI m c)) (ix3 b n 0)
      = decodedAt (params m c) (m ((c.tc : Thread nD τ).loc main_arg0)) (m ((c.tc : Thread nD τ).loc main_arg1))
        (m ((c.tc : Thread nD τ).loc main_arg2)) (m ((c.tc : Thread nD τ).loc main_arg3)) b n.val := by
    intro b n
    unfold out_main_v3
    pointwise
    exact (carries_iterate (carries_entry m c b _) 24 le_rfl).out n n.isLt
  refine funext fun (i : (⟨3, ![8192, 24, 1]⟩ : Shape).Idx) => ?_
  have e : i = ix3 (i 0) (i 1) 0 := by
    funext a
    match a with
    | ⟨0, _⟩ => rfl
    | ⟨1, _⟩ => rfl
    | ⟨2, _⟩ => exact Subsingleton.elim (α := Fin 1) _ _
  exact (congrArg (out_main_v3 (STEP^[24] (entryContents preI m c))) e).trans (key (i 0) (i 1))

end Result

end Cert.ReferenceIdeal.Decoder
-- ==== Proof.Step.lean ====
/- One decoder step of one 512-row chain, written once, and the pieces a grid point stores. -/
module

public import proofs.«01_k».proof.Proof.Gen.KernelIdeal.Frame

@[expose] public section

noncomputable section

namespace Cert.KernelIdeal.Decoder

open Cert.KernelIdeal Cert.KernelIdeal.Gen Idealize.ShloMosaic Idealize.ShloMosaic.TcCoe Idealize.ShloMosaic.Tactic

variable {F : FTy → Type} [FloatOps F]

/-- The weights a grid point reads: the input product's, the recurrent product's, the output row and its bias. -/
structure Weights (F : FTy → Type) where
  wx : FVec F S9x2048 .bf16
  wh : FVec F S512x2048 .bf16
  fw : FVec F S1x512 .f32
  fb : F .f32

/-- What one chain carries from step to step: the hidden state, the cell state in four column groups, the last output. -/
structure State (F : FTy → Type) where
  h : FVec F S512x512 .bf16
  c0 : FVec F S512x128 .f32
  c1 : FVec F S512x128 .f32
  c2 : FVec F S512x128 .f32
  c3 : FVec F S512x128 .f32
  y : FVec F S512x1 .bf16

/-- One half, at every place of a shape. -/
def half (s : Shape) : FVec F s .f32 := broadcast s (Scalar.ofBits .f32 0x3F000000#32)

/-- The logistic as the kernel computes it: `0.5 * tanh (0.5 * x) + 0.5`. -/
def sg {s : Shape} (x : FVec F s .f32) : FVec F s .f32 :=
  addf (mulf (half s) (tanh (mulf (half s) x))) (half s)

/-- The augmented input of a step: seven covariates, the last output, and a one. -/
def aug (x : Vec F S512x7 .f32) (y : FVec F S512x1 .bf16) : FVec F S512x9 .bf16 :=
  concatenate S512x9 1 [⟨S512x7, truncf .bf16 (shapeCast S512x7 x shapeCasts_S512x7_S512x7 : FVec F S512x7 .f32) bitsLt_bf16_f32⟩,
    ⟨S512x1, y⟩, ⟨S512x1, broadcast S512x1 (Scalar.ofBits .bf16 0x3F80#16 : F .bf16)⟩]
    concatenates_S512x7_S512x1_S512x1_S512x9_d1

/-- The 512 gate columns from column `o` on, before their activation. -/
def gates (W : Weights F) (h : FVec F S512x512 .bf16) (xa : FVec F S512x9 .bf16) (o : ℕ)
    (hh : S512x2048.Slices ![0, o] S512x512) (hx : S9x2048.Slices ![0, o] S9x512) : FVec F S512x512 .f32 :=
  addf (matmul dot_S512x512_S512x512_S512x512_1_0_0_1_n_n none h
      (extractStridedSlice S512x512 ![0, o] W.wh hh) (constant S512x512 .f32 0x00000000#32))
    (matmul dot_S512x9_S9x512_S512x512_1_0_0_1_n_n none xa
      (extractStridedSlice S9x512 ![0, o] W.wx hx) (constant S512x512 .f32 0x00000000#32))

/-- The new cell state of 128 columns, of their four gates and the old cell state. -/
def cell (g : FVec F S512x512 .f32) (c : FVec F S512x128 .f32) : FVec F S512x128 .f32 :=
  addf (mulf (sg (extractStridedSlice S512x128 ![0, 128] g slices_S512x512_o0_128_S512x128)) c)
    (mulf (sg (extractStridedSlice S512x128 ![0, 0] g slices_S512x512_o0_0_S512x128))
      (tanh (extractStridedSlice S512x128 ![0, 256] g slices_S512x512_o0_256_S512x128)))

/-- The new hidden state of 128 columns, of their output gate and the new cell state. -/
def hid (g : FVec F S512x512 .f32) (c : FVec F S512x128 .f32) : FVec F S512x128 .f32 :=
  mulf (sg (extractStridedSlice S512x128 ![0, 384] g slices_S512x512_o0_384_S512x128)) (tanh c)

/-- The row sums of 128 hidden columns times the output row's columns from `o` on. -/
def rowSum (W : Weights F) (h : FVec F S512x128 .f32) (o : ℕ) (ho : S1x512.Slices ![0, o] S1x128) : FVec F S512x1 .f32 :=
  shapeCast S512x1 (multiReduction .add [1] S512
      (mulf h (broadcastTo S512x128 (extractStridedSlice S1x128 ![0, o] W.fw ho) broadcasts_S1x128_S512x128))
      0x00000000#32 reduces_S512x128_S512 (.inl rfl) rfl) shapeCasts_S512_S512x1

/-- The gates of one column group at a step. -/
def gatesOf (W : Weights F) (s : State F) (x : Vec F S512x7 .f32) (o : ℕ)
    (hh : S512x2048.Slices ![0, o] S512x512) (hx : S9x2048.Slices ![0, o] S9x512) : FVec F S512x512 .f32 :=
  gates W s.h (aug x s.y) o hh hx

/-- The new cell state's first column group. -/
def newC0 (W : Weights F) (s : State F) (x : Vec F S512x7 .f32) : FVec F S512x128 .f32 :=
  cell (gatesOf W s x 0 slices_S512x2048_o0_0_S512x512 slices_S9x2048_o0_0_S9x512) s.c0
/-- The new cell state's second column group. -/
def newC1 (W : Weights F) (s : State F) (x : Vec F S512x7 .f32) : FVec F S512x128 .f32 :=
  cell (gatesOf W s x 512 slices_S512x2048_o0_512_S512x512 slices_S9x2048_o0_512_S9x512) s.c1
/-- The new cell state's third column group. -/
def newC2 (W : Weights F) (s : State F) (x : Vec F S512x7 .f32) : FVec F S512x128 .f32 :=
  cell (gatesOf W s x 1024 slices_S512x2048_o0_1024_S512x512 slices_S9x2048_o0_1024_S9x512) s.c2
/-- The new cell state's fourth column group. -/
def newC3 (W : Weights F) (s : State F) (x : Vec F S512x7 .f32) : FVec F S512x128 .f32 :=
  cell (gatesOf W s x 1536 slices_S512x2048_o0_1536_S512x512 slices_S9x2048_o0_1536_S9x512) s.c3

/-- The new hidden state's first column group. -/
def newH0 (W : Weights F) (s : State F) (x : Vec F S512x7 .f32) : FVec F S512x128 .f32 :=
  hid (gatesOf W s x 0 slices_S512x2048_o0_0_S512x512 slices_S9x2048_o0_0_S9x512) (newC0 W s x)
/-- The new hidden state's second column group. -/
def newH1 (W : Weights F) (s : State F) (x : Vec F S512x7 .f32) : FVec F S512x128 .f32 :=
  hid (gatesOf W s x 512 slices_S512x2048_o0_512_S512x512 slices_S9x2048_o0_512_S9x512) (newC1 W s x)
/-- The new hidden state's third column group. -/
def newH2 (W : Weights F) (s : State F) (x : Vec F S512x7 .f32) : FVec F S512x128 .f32 :=
  hid (gatesOf W s x 1024 slices_S512x2048_o0_1024_S512x512 slices_S9x2048_o0_1024_S9x512) (newC2 W s x)
/-- The new hidden state's fourth column group. -/
def newH3 (W : Weights F) (s : State F) (x : Vec F S512x7 .f32) : FVec F S512x128 .f32 :=
  hid (gatesOf W s x 1536 slices_S512x2048_o0_1536_S512x512 slices_S9x2048_o0_1536_S9x512) (newC3 W s x)

/-- The step's result: the output bias plus the four row sums, in the kernel's order. -/
def logit (W : Weights F) (s : State F) (x : Vec F S512x7 .f32) : FVec F S512x1 .f32 :=
  addf (addf (addf (addf (mulf (broadcast S512x1 W.fb) (broadcast S512x1 (Scalar.ofBits .f32 0x3F800000#32)))
      (rowSum W (newH0 W s x) 0 slices_S1x512_o0_0_S1x128))
      (rowSum W (newH1 W s x) 128 slices_S1x512_o0_128_S1x128))
      (rowSum W (newH2 W s x) 256 slices_S1x512_o0_256_S1x128))
      (rowSum W (newH3 W s x) 384 slices_S1x512_o0_384_S1x128)

/-- The state after a step. -/
def next (W : Weights F) (s : State F) (x : Vec F S512x7 .f32) : State F where
  h := truncf .bf16 (concatenate S512x512 1 [⟨S512x128, newH0 W s x⟩, ⟨S512x128, newH1 W s x⟩, ⟨S512x128, newH2 W s x⟩,
    ⟨S512x128, newH3 W s x⟩] concatenates_S512x128_S512x128_S512x128_S512x128_S512x512_d1) bitsLt_bf16_f32
  c0 := newC0 W s x
  c1 := newC1 W s x
  c2 := newC2 W s x
  c3 := newC3 W s x
  y := truncf .bf16 (sg (logit W s x)) bitsLt_bf16_f32

/-- The state before step `n`, of the covariates `xs` and the state before the first step. -/
def stateAt (W : Weights F) (s₀ : State F) (xs : Fin 24 → Vec F S512x7 .f32) : (n : ℕ) → n ≤ 24 → State F
  | 0, _ => s₀
  | n + 1, h => next W (stateAt W s₀ xs n (Nat.le_of_succ_le h)) (xs ⟨n, h⟩)

/-- The column `n` of rows `512 q ..` of a block lies inside it. -/
theorem inb_out (q : Fin 2) (n : ℕ) (h : n < 24) : ∀ a : Fin 2, ![512 * q.val, n] a + S512x1.size a ≤ S1024x24.size a := by
  intro a; fin_cases a
  · show 512 * q.val + 512 ≤ 1024; omega
  · show n + 1 ≤ 24; omega

/-- The seven columns of step `n` of rows `512 q ..` of a block lie inside it. -/
theorem inb_x (q : Fin 2) (n : ℕ) (h : n < 24) : ∀ a : Fin 2, ![512 * q.val, 7 * n] a + S512x7.size a ≤ S1024x168.size a := by
  intro a; fin_cases a
  · show 512 * q.val + 512 ≤ 1024; omega
  · show 7 * n + 7 ≤ 168; omega

/-- Rows `512 q ..` of the hidden state's block lie inside it. -/
theorem inb_h (q : Fin 2) : ∀ a : Fin 2, ![512 * q.val, 0] a + S512x512.size a ≤ S1024x512.size a := by
  intro a; fin_cases a
  · show 512 * q.val + 512 ≤ 1024; omega
  · show 0 + 512 ≤ 512; omega

/-- Rows `512 q ..` and the 128 columns from `o` on of the cell state's block lie inside it. -/
theorem inb_c (q : Fin 2) (o : ℕ) (h : o + 128 ≤ 512) : ∀ a : Fin 2, ![512 * q.val, o] a + S512x128.size a ≤ S1024x512.size a := by
  intro a; fin_cases a
  · show 512 * q.val + 512 ≤ 1024; omega
  · show o + 128 ≤ 512; omega

/-- Rows `512 q ..` of the first output's block lie inside it. -/
theorem inb_y (q : Fin 2) : ∀ a : Fin 2, ![512 * q.val, 0] a + S512x1.size a ≤ S1024x1.size a := by
  intro a; fin_cases a
  · show 512 * q.val + 512 ≤ 1024; omega
  · show 0 + 1 ≤ 1; omega

/-- The stores of the first `n` steps, last first: each step stores chain 0's result, then chain 1's. -/
def pieces (W : Weights F) (s₀ : Fin 2 → State F) (xs : Fin 2 → Fin 24 → Vec F S512x7 .f32) :
    (n : ℕ) → n ≤ 24 → List (View.Piece (Elt F) S1024x24 .f32)
  | 0, _ => []
  | n + 1, h =>
    ⟨Rect.unit ![512 * (1 : Fin 2).val, n] S512x1.size (inb_out 1 n h), logit W (stateAt W (s₀ 1) (xs 1) n (Nat.le_of_succ_le h)) (xs 1 ⟨n, h⟩)⟩ ::
    ⟨Rect.unit ![512 * (0 : Fin 2).val, n] S512x1.size (inb_out 0 n h), logit W (stateAt W (s₀ 0) (xs 0) n (Nat.le_of_succ_le h)) (xs 0 ⟨n, h⟩)⟩ ::
    pieces W s₀ xs n (Nat.le_of_succ_le h)

/-- What the generated run stores is `pieces`. -/
theorem run_pieces (c : Dev nD) (i : grid0.Coords) (arg1 : Memref sig .tc .vmem S1024x168 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S9x2048 .bf16) (harg5 : arg5.IsWhole) (arg6 : Memref sig .tc .vmem S512x2048 .bf16) (harg6 : arg6.IsWhole) (arg7 : Memref sig .tc .vmem S1x512 .f32) (harg7 : arg7.IsWhole) (arg8 : Memref sig .tc .vmem S1x1 .f32) (harg8 : arg8.IsWhole) (arg9 : Memref sig .tc .vmem S1024x24 .f32) (harg9 : arg9.IsWhole) (arg10 : Memref sig .tc .vmem S8x128 .f32) (harg10 : arg10.IsWhole)
    (x0 : Vec F S1024x168 .f32) (x1 : Vec F S1024x512 .f32) (x2 : Vec F S1024x512 .f32) (x3 : Vec F S1024x1 .f32) (x4 : Vec F S9x2048 .bf16) (x5 : Vec F S512x2048 .bf16) (x6 : Vec F S1x512 .f32) (x7 : Vec F S1x1 .f32) :
    (kernelRun0_A c i arg1 harg1 arg2 harg2 arg3 harg3 arg4 harg4 arg5 harg5 arg6 harg6 arg7 harg7 arg8 harg8 arg9 harg9 arg10 harg10 x0 x1 x2 x3 x4 x5 x6 x7).1 =
    pieces
      { wx := shapeCast S9x2048 (View.readAt (Elt F) arg5.view (Rect.unit ![0, 0] S9x2048.size inb_S9x2048_S9x2048_0_0).toLoadRect (harg5.unread x4)) shapeCasts_S9x2048_S9x2048
        wh := shapeCast S512x2048 (View.readAt (Elt F) arg6.view (Rect.unit ![0, 0] S512x2048.size inb_S512x2048_S512x2048_0_0).toLoadRect (harg6.unread x5)) shapeCasts_S512x2048_S512x2048
        fw := View.readAt (Elt F) arg7.view (Rect.unit ![0, 0] S1x512.size inb_S1x512_S1x512_0_0).toLoadRect (harg7.unread x6)
        fb := extractAt ![0, 0] (View.readAt (Elt F) arg8.view (Rect.unit ![0, 0] S1x1.size inb_S1x1_S1x1_0_0).toLoadRect (harg8.unread x7)) inpos_S1x1_p0_0 }
      (fun q =>
        { h := truncf .bf16 (View.readAt (Elt F) arg2.view (Rect.unit (s := S1024x512) ![512 * q.val, 0] S512x512.size (inb_h q)).toLoadRect (harg2.unread x1)) bitsLt_bf16_f32
          c0 := View.readAt (Elt F) arg3.view (Rect.unit (s := S1024x512) ![512 * q.val, 0] S512x128.size (inb_c q 0 (by decide))).toLoadRect (harg3.unread x2)
          c1 := View.readAt (Elt F) arg3.view (Rect.unit (s := S1024x512) ![512 * q.val, 128] S512x128.size (inb_c q 128 (by decide))).toLoadRect (harg3.unread x2)
          c2 := View.readAt (Elt F) arg3.view (Rect.unit (s := S1024x512) ![512 * q.val, 256] S512x128.size (inb_c q 256 (by decide))).toLoadRect (harg3.unread x2)
          c3 := View.readAt (Elt F) arg3.view (Rect.unit (s := S1024x512) ![512 * q.val, 384] S512x128.size (inb_c q 384 (by decide))).toLoadRect (harg3.unread x2)
          y := truncf .bf16 (View.readAt (Elt F) arg4.view (Rect.unit (s := S1024x1) ![512 * q.val, 0] S512x1.size (inb_y q)).toLoadRect (harg4.unread x3)) bitsLt_bf16_f32 })
      (fun q n => View.readAt (Elt F) arg1.view (Rect.unit (s := S1024x168) ![512 * q.val, 7 * n.val] S512x7.size (inb_x q n n.isLt)).toLoadRect (harg1.unread x0))
      24 le_rfl := by
  sl_kernel_rfl

end Cert.KernelIdeal.Decoder
-- ==== Proof.Rows.lean ====
/- A chain of the kernel computes the decoder row by row. -/
module

public import proofs.«01_k».proof.Proof.Step
public import proofs.«01_k».proof.Proof.Row
public import Idealize.ShloMosaic.Lib.Pointwise

@[expose] public section

set_option maxRecDepth 16384

noncomputable section

namespace Cert.KernelIdeal.Decoder

open Cert.Decoder Cert.KernelIdeal Cert.KernelIdeal.Gen Idealize.ShloMosaic Idealize.ShloMosaic.TcCoe

/-! ## The kernel's step, row by row -/

/-- Hidden column `l` of column group `j`. -/
def hcol (j : Fin 4) (l : Fin 128) : Fin 512 := ⟨128 * j.val + l.val, by omega⟩

/-- The kernel's gate column of gate `g`, column group `j`, column `l` of the group: the groups come first, the gates within. -/
def kcol (j g : Fin 4) (l : Fin 128) : Fin 2048 := ⟨512 * j.val + (128 * g.val + l.val), by omega⟩

/-- The kernel's weights are the parameters, with the gate columns in the kernel's order. -/
structure Agrees (W : Weights Ideal) (P : Params) : Prop where
  wh : ∀ (k : Fin 512) (j g : Fin 4) (l : Fin 128), W.wh (ix2 k (kcol j g l)) = P.whh (ix2 (col g (hcol j l)) k)
  wx : ∀ (k : Fin 8) (j g : Fin 4) (l : Fin 128), W.wx (ix2 (k.castLE (by decide)) (kcol j g l)) = P.wih (ix2 (col g (hcol j l)) k)
  wb : ∀ (j g : Fin 4) (l : Fin 128), W.wx (ix2 8 (kcol j g l)) = P.bih (ix1 (col g (hcol j l))) + P.bhh (ix1 (col g (hcol j l)))
  fw : ∀ k : Fin 512, W.fw (ix2 0 k) = P.fcw (ix2 0 k)
  fb : W.fb = P.fcb (ix1 0)

/-- A chain's state holds the row `R` in its row `r`. -/
structure Holds (s : State Ideal) (r : Fin 512) (R : Row) : Prop where
  h : ∀ k : Fin 512, s.h (ix2 r k) = R.h k
  c0 : ∀ l : Fin 128, s.c0 (ix2 r l) = R.c (hcol 0 l)
  c1 : ∀ l : Fin 128, s.c1 (ix2 r l) = R.c (hcol 1 l)
  c2 : ∀ l : Fin 128, s.c2 (ix2 r l) = R.c (hcol 2 l)
  c3 : ∀ l : Fin 128, s.c3 (ix2 r l) = R.c (hcol 3 l)
  y : s.y (ix2 r 0) = R.y

/-- The kernel's gate columns of a row are the row's gates. -/
theorem gatesOf_apply {W : Weights Ideal} {P : Params} (hW : Agrees W P) {s : State Ideal} {r : Fin 512} {R : Row} (hs : Holds s r R)
    {x : Vec Ideal S512x7 .f32} {xr : Fin 7 → EReal} (hx : ∀ i : Fin 7, x (ix2 r i) = xr i) (j g : Fin 4) (l : Fin 128) {o : ℕ} (ho : o = 512 * j.val)
    (sh : S512x2048.Slices ![0, o] S512x512) (sx : S9x2048.Slices ![0, o] S9x512) (k : Fin 512) (hk : k.val = 128 * g.val + l.val) :
    gatesOf W s x o sh sx (ix2 r k) = gate P R xr (col g (hcol j l)) := by
  have hc : ∀ p, (⟨o + k.val, p⟩ : Fin 2048) = kcol j g l := fun p => Fin.ext (by show o + k.val = 512 * j.val + (128 * g.val + l.val); omega)
  pointwise [gatesOf, gates, aug]
  simp only [hc, hW.wh, hs.h]
  rw [Fin.sum_univ_castSucc (n := 8), Fin.sum_univ_castSucc (n := 7)]
  have e7 : ∀ i : Fin 7, W.wx (ix2 i.castSucc.castSucc (kcol j g l)) = P.wih (ix2 (col g (hcol j l)) (i.castLE (by decide))) :=
    fun i => hW.wx i.castSucc j g l
  have e8 : W.wx (ix2 (Fin.last 7).castSucc (kcol j g l)) = P.wih (ix2 (col g (hcol j l)) 7) := hW.wx 7 j g l
  have e9 : W.wx (ix2 (Fin.last 8) (kcol j g l)) = P.bih (ix1 (col g (hcol j l))) + P.bhh (ix1 (col g (hcol j l))) := hW.wb j g l
  simp only [e7, e8, e9, Fin.val_castSucc, Fin.val_last, Fin.is_lt, dite_true, Fin.eta, hx, lt_irrefl, dite_false, Nat.sub_self,
    Nat.reduceLT, Nat.reduceSub, Nat.lt_one_iff]
  rw [show s.y (ix2 r ⟨0, Nat.zero_lt_one⟩) = R.y from hs.y, one_mul]
  unfold gate
  ac_rfl

/-- The new cell state of one column group, of gates read in a row. -/
theorem cell_apply (g : FVec Ideal S512x512 .f32) (c : FVec Ideal S512x128 .f32) (r : Fin 512) (l : Fin 128) :
    cell g c (ix2 r l) = Ideal.logistic (g (ix2 r ⟨128 + l.val, by omega⟩)) * c (ix2 r l)
      + Ideal.logistic (g (ix2 r ⟨l.val, by omega⟩)) * Ideal.tanh (g (ix2 r ⟨256 + l.val, by omega⟩)) := by
  simp only [← half_tanh_half]
  pointwise [cell, sg, half]

/-- The new hidden state of one column group, of gates read in a row. -/
theorem hid_apply (g : FVec Ideal S512x512 .f32) (c : FVec Ideal S512x128 .f32) (r : Fin 512) (l : Fin 128) :
    hid g c (ix2 r l) = Ideal.logistic (g (ix2 r ⟨384 + l.val, by omega⟩)) * Ideal.tanh (c (ix2 r l)) := by
  simp only [← half_tanh_half]
  pointwise [hid, sg, half]

section Step

variable {W : Weights Ideal} {P : Params} (hW : Agrees W P) {s : State Ideal} {r : Fin 512} {R : Row} (hs : Holds s r R)
  {x : Vec Ideal S512x7 .f32} {xr : Fin 7 → EReal} (hx : ∀ i : Fin 7, x (ix2 r i) = xr i)
include hW hs hx

/-- The new cell state of column group `j` is the row's. -/
theorem cell_gatesOf (j : Fin 4) {o : ℕ} (ho : o = 512 * j.val) (sh : S512x2048.Slices ![0, o] S512x512) (sx : S9x2048.Slices ![0, o] S9x512)
    {c : FVec Ideal S512x128 .f32} (hc : ∀ l : Fin 128, c (ix2 r l) = R.c (hcol j l)) (l : Fin 128) :
    cell (gatesOf W s x o sh sx) c (ix2 r l) = rowC P R xr (hcol j l) := by
  rw [cell_apply, gatesOf_apply hW hs hx j 1 l ho sh sx _ rfl, gatesOf_apply hW hs hx j 0 l ho sh sx _ (Nat.zero_add _).symm,
    gatesOf_apply hW hs hx j 2 l ho sh sx _ rfl, hc, rowC]

/-- The new hidden state of column group `j` is the row's. -/
theorem hid_gatesOf (j : Fin 4) {o : ℕ} (ho : o = 512 * j.val) (sh : S512x2048.Slices ![0, o] S512x512) (sx : S9x2048.Slices ![0, o] S9x512)
    {c : FVec Ideal S512x128 .f32} (hc : ∀ l : Fin 128, c (ix2 r l) = rowC P R xr (hcol j l)) (l : Fin 128) :
    hid (gatesOf W s x o sh sx) c (ix2 r l) = rowH P R xr (hcol j l) := by
  rw [hid_apply, gatesOf_apply hW hs hx j 3 l ho sh sx _ rfl, hc, rowH]

/-- The four column groups of the new cell state are the row's; likewise of the new hidden state. -/
theorem newC0_apply (l : Fin 128) : newC0 W s x (ix2 r l) = rowC P R xr (hcol 0 l) := cell_gatesOf hW hs hx 0 rfl _ _ hs.c0 l
theorem newC1_apply (l : Fin 128) : newC1 W s x (ix2 r l) = rowC P R xr (hcol 1 l) := cell_gatesOf hW hs hx 1 rfl _ _ hs.c1 l
theorem newC2_apply (l : Fin 128) : newC2 W s x (ix2 r l) = rowC P R xr (hcol 2 l) := cell_gatesOf hW hs hx 2 rfl _ _ hs.c2 l
theorem newC3_apply (l : Fin 128) : newC3 W s x (ix2 r l) = rowC P R xr (hcol 3 l) := cell_gatesOf hW hs hx 3 rfl _ _ hs.c3 l

theorem newH0_apply (l : Fin 128) : newH0 W s x (ix2 r l) = rowH P R xr (hcol 0 l) := hid_gatesOf hW hs hx 0 rfl _ _ (newC0_apply hW hs hx) l
theorem newH1_apply (l : Fin 128) : newH1 W s x (ix2 r l) = rowH P R xr (hcol 1 l) := hid_gatesOf hW hs hx 1 rfl _ _ (newC1_apply hW hs hx) l
theorem newH2_apply (l : Fin 128) : newH2 W s x (ix2 r l) = rowH P R xr (hcol 2 l) := hid_gatesOf hW hs hx 2 rfl _ _ (newC2_apply hW hs hx) l
theorem newH3_apply (l : Fin 128) : newH3 W s x (ix2 r l) = rowH P R xr (hcol 3 l) := hid_gatesOf hW hs hx 3 rfl _ _ (newC3_apply hW hs hx) l

omit hs hx in
/-- The row sum of column group `j` is that part of the output product. -/
theorem rowSum_apply (j : Fin 4) {o : ℕ} (ho : o = 128 * j.val) (so : S1x512.Slices ![0, o] S1x128)
    {h : FVec Ideal S512x128 .f32} {f : Fin 512 → EReal} (hh : ∀ l : Fin 128, h (ix2 r l) = f (hcol j l)) :
    rowSum W h o so (ix2 r 0) = ∑ l : Fin 128, f (hcol j l) * P.fcw (ix2 0 (hcol j l)) := by
  have hc : ∀ (l : Fin 128) (p), (⟨o + l.val, p⟩ : Fin 512) = hcol j l := fun l p => Fin.ext (by show o + l.val = 128 * j.val + l.val; omega)
  pointwise [rowSum]
  simp only [hc, hh, hW.fw]

/-- The step's result in row `r` is the row's. -/
theorem logit_apply : logit W s x (ix2 r 0) = rowLogit P R xr := by
  have hsum : ∀ f : Fin 512 → EReal, ∑ i, f i = (((∑ l, f (hcol 0 l)) + ∑ l, f (hcol 1 l)) + ∑ l, f (hcol 2 l)) + ∑ l, f (hcol 3 l) := by
    intro f
    have e : ∀ (j : Fin 4) (l : Fin 128) (p), (⟨j.val * 128 + l.val, p⟩ : Fin 512) = hcol j l :=
      fun j l p => Fin.ext (by show j.val * 128 + l.val = 128 * j.val + l.val; omega)
    rw [Fin.sum_univ_tiles 4 128 rfl f]
    simp only [e]
    rw [Fin.sum_univ_four]
  rw [rowLogit, hsum, ← hW.fb]
  pointwise [logit]
  rw [rowSum_apply hW 0 (o := 0) rfl _ (newH0_apply hW hs hx), rowSum_apply hW 1 (o := 128) rfl _ (newH1_apply hW hs hx),
    rowSum_apply hW 2 (o := 256) rfl _ (newH2_apply hW hs hx), rowSum_apply hW 3 (o := 384) rfl _ (newH3_apply hW hs hx)]
  ac_rfl

/-- A step takes a state holding a row to a state holding the row after the step. -/
theorem holds_next : Holds (next W s x) r (rowNext P R xr) where
  h k := by
    pointwise [next]
    simp only [newH0_apply hW hs hx, newH1_apply hW hs hx, newH2_apply hW hs hx, newH3_apply hW hs hx]
    show _ = rowH P R xr k
    split_ifs <;> exact congrArg (rowH P R xr) (Fin.ext (by simp only [hcol, Fin.val_zero, Fin.val_one, Fin.val_two]; omega))
  c0 := newC0_apply hW hs hx
  c1 := newC1_apply hW hs hx
  c2 := newC2_apply hW hs hx
  c3 := newC3_apply hW hs hx
  y := by
    show sg (logit W s x) (ix2 r 0) = Ideal.logistic (rowLogit P R xr)
    rw [← logit_apply hW hs hx, ← half_tanh_half]
    pointwise [sg, half]

end Step

/-- Before every step, a chain's state holds the row before that step. -/
theorem holds_stateAt {W : Weights Ideal} {P : Params} (hW : Agrees W P) {s₀ : State Ideal} {r : Fin 512} {R : Row} (h₀ : Holds s₀ r R)
    {xs : Fin 24 → Vec Ideal S512x7 .f32} {xr : ℕ → Fin 7 → EReal} (hx : ∀ (n : Fin 24) (i : Fin 7), xs n (ix2 r i) = xr n.val i) :
    ∀ (n : ℕ) (hn : n ≤ 24), Holds (stateAt W s₀ xs n hn) r (rowAt P R xr n)
  | 0, _ => h₀
  | n + 1, hn => holds_next hW (holds_stateAt hW h₀ hx n (Nat.le_of_succ_le hn)) (hx ⟨n, hn⟩)

end Cert.KernelIdeal.Decoder
-- ==== Proof.Block.lean ====
/- What one grid point leaves in the result's block, row by row. -/
module

public import proofs.«01_k».proof.Proof.Rows
public import Idealize.ShloMosaic.Lib.Pipeline.ValueKit

@[expose] public section

set_option maxRecDepth 16384

noncomputable section

namespace Cert.KernelIdeal.Decoder

open Cert.Decoder Cert.KernelIdeal Cert.KernelIdeal.Gen Idealize.ShloMosaic Idealize.ShloMosaic.TcCoe

/-- Every piece stored in the first `n` steps agrees with one function `G` of the block's index, when each chain's result of each
    step does: chain `q`'s row `r` at step `k` is the block's row `512 q + r`, column `k`. -/
theorem pieces_agree (W : Weights Ideal) (s₀ : Fin 2 → State Ideal) (xs : Fin 2 → Fin 24 → Vec Ideal S512x7 .f32) (G : S1024x24.Idx → Elt Ideal .f32)
    (hG : ∀ (q : Fin 2) (r : Fin 512) (k : Fin 24), logit W (stateAt W (s₀ q) (xs q) k.val k.isLt.le) (xs q k) (ix2 r 0)
      = G (ix2 ⟨512 * q.val + r.val, by omega⟩ k)) :
    ∀ (n : ℕ) (hn : n ≤ 24), ∀ p ∈ pieces W s₀ xs n hn, ∀ x : p.1.shape.Idx, p.2 x = G (p.1.emb x)
  | 0, _ => fun p hp => absurd hp (List.not_mem_nil)
  | n + 1, hn => by
    have one : ∀ (q : Fin 2) (x : (Rect.unit (s := S1024x24) ![512 * q.val, n] S512x1.size (inb_out q n hn)).shape.Idx),
        logit W (stateAt W (s₀ q) (xs q) n (Nat.le_of_succ_le hn)) (xs q ⟨n, hn⟩) x
          = G ((Rect.unit (s := S1024x24) ![512 * q.val, n] S512x1.size (inb_out q n hn)).emb x) := by
      intro q x
      have ex : x = ix2 (n0 := 512) (n1 := 1) (x 0) 0 := by
        funext a
        match a with
        | ⟨0, _⟩ => rfl
        | ⟨1, _⟩ => exact Subsingleton.elim (α := Fin 1) _ _
      have ey : (Rect.unit (s := S1024x24) ![512 * q.val, n] S512x1.size (inb_out q n hn)).emb x
          = ix2 (⟨512 * q.val + (x 0).val, by have : (x 0).val < 512 := (x 0).isLt; omega⟩ : Fin 1024) (⟨n, hn⟩ : Fin 24) := by
        funext a
        match a with
        | ⟨0, _⟩ => exact Fin.ext (congrArg (512 * q.val + ·) (Nat.one_mul (x 0).val))
        | ⟨1, _⟩ =>
          have h1 : (x 1).val = 0 := Nat.lt_one_iff.mp (x 1).isLt
          exact Fin.ext (show n + 1 * (x 1).val = n by omega)
      rw [ey]
      exact (congrArg _ ex).trans (hG q (x 0) ⟨n, hn⟩)
    intro p hp
    rcases List.mem_cons.mp hp with rfl | hp
    · exact one 1
    rcases List.mem_cons.mp hp with rfl | hp
    · exact one 0
    exact pieces_agree W s₀ xs G hG n (Nat.le_of_succ_le hn) p hp

/-- A load of a rectangle of a buffer that holds `x` reads `x` at the rectangle's places. -/
theorem load_unread {sig : RefSig} {κ : Kind} {sp : Space} {s : Shape} {e : EltTy} (m : Memref sig κ sp s e) (hm : m.IsWhole)
    (x : s.Idx → Elt Ideal e) (off size : Fin s.rank → ℕ) (inb : ∀ a, off a + size a ≤ s.size a) (j : (Rect.unit off size inb).shape.Idx) :
    View.readAt (Elt Ideal) m.view (Rect.unit off size inb).toLoadRect (hm.unread x) j = x ((Rect.unit off size inb).idx j) :=
  congrFun (hm.read_unread (Val := Elt Ideal) x) _

/-- A load of all of a buffer that holds `x` reads `x`. -/
theorem load_unread_all {sig : RefSig} {κ : Kind} {sp : Space} {s : Shape} {e : EltTy} (m : Memref sig κ sp s e) (hm : m.IsWhole)
    (x : s.Idx → Elt Ideal e) {off : Fin s.rank → ℕ} (h0 : off = fun _ => 0) (inb : ∀ a, off a + s.size a ≤ s.size a) :
    View.readAt (Elt Ideal) m.view (Rect.unit off s.size inb).toLoadRect (hm.unread x) = x := by
  rw [View.readAt_eq_ld, View.ld_unit_zero h0, hm.read_unread]

/-- A load of a rectangle of a matrix that holds `x`, at row `r` and column `k`, reads `x` that far from the rectangle's corner. -/
theorem load_at {sig : RefSig} {κ : Kind} {sp : Space} {e : EltTy} {d0 d1 e0 e1 o0 o1 : ℕ} (m : Memref sig κ sp ⟨2, ![d0, d1]⟩ e) (hm : m.IsWhole)
    (x : (⟨2, ![d0, d1]⟩ : Shape).Idx → Elt Ideal e) (inb : ∀ a : Fin 2, ![o0, o1] a + ![e0, e1] a ≤ (⟨2, ![d0, d1]⟩ : Shape).size a) (r : Fin e0) (k : Fin e1)
    (r' : Fin d0) (k' : Fin d1) (h0 : r'.val = o0 + r.val) (h1 : k'.val = o1 + k.val) :
    View.readAt (Elt Ideal) m.view (Rect.unit (s := ⟨2, ![d0, d1]⟩) ![o0, o1] ![e0, e1] inb).toLoadRect (hm.unread x) (ix2 r k) = x (ix2 r' k') := by
  rw [load_unread]
  refine congrArg x (funext fun a => ?_)
  match a with
  | ⟨0, _⟩ => exact Fin.ext ((congrArg (o0 + ·) (Nat.one_mul r.val)).trans h0.symm)
  | ⟨1, _⟩ => exact Fin.ext ((congrArg (o1 + ·) (Nat.one_mul k.val)).trans h1.symm)

/-- What a grid point leaves in the result's block, of blocks that hold the rows `rows`, their covariates `xr` and the weights of
    the parameters `P`: every row's result of every step. -/
theorem out_apply (c : Dev nD) (i : grid0.Coords) (arg1 : Memref sig .tc .vmem S1024x168 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S9x2048 .bf16) (harg5 : arg5.IsWhole) (arg6 : Memref sig .tc .vmem S512x2048 .bf16) (harg6 : arg6.IsWhole) (arg7 : Memref sig .tc .vmem S1x512 .f32) (harg7 : arg7.IsWhole) (arg8 : Memref sig .tc .vmem S1x1 .f32) (harg8 : arg8.IsWhole) (arg9 : Memref sig .tc .vmem S1024x24 .f32) (harg9 : arg9.IsWhole) (arg10 : Memref sig .tc .vmem S8x128 .f32) (harg10 : arg10.IsWhole)
    (x0 : Vec Ideal S1024x168 .f32) (x1 : Vec Ideal S1024x512 .f32) (x2 : Vec Ideal S1024x512 .f32) (x3 : Vec Ideal S1024x1 .f32) (x4 : Vec Ideal S9x2048 .bf16) (x5 : Vec Ideal S512x2048 .bf16) (x6 : Vec Ideal S1x512 .f32) (x7 : Vec Ideal S1x1 .f32)
    (P : Params) (rows : Fin 1024 → Row) (xr : Fin 1024 → ℕ → Fin 7 → EReal)
    (hx : ∀ (r : Fin 1024) (n : Fin 24) (k : Fin 7), x0 (ix2 r ⟨7 * n.val + k.val, by omega⟩) = xr r n.val k)
    (hh : ∀ (r : Fin 1024) (k : Fin 512), x1 (ix2 r k) = (rows r).h k)
    (hc : ∀ (r : Fin 1024) (k : Fin 512), x2 (ix2 r k) = (rows r).c k)
    (hy : ∀ r : Fin 1024, x3 (ix2 r 0) = (rows r).y)
    (hW : Agrees { wx := x4, wh := x5, fw := x6, fb := x7 (ix2 0 0) } P) (r : Fin 1024) (n : Fin 24) :
    out0_A_8 c i arg1 harg1 arg2 harg2 arg3 harg3 arg4 harg4 arg5 harg5 arg6 harg6 arg7 harg7 arg8 harg8 arg9 harg9 arg10 harg10 x0 x1 x2 x3 x4 x5 x6 x7 (ix2 r n)
      = rowLogit P (rowAt P (rows r) (xr r) n.val) (xr r n.val) := by
  have z2 : (![0, 0] : Fin 2 → ℕ) = fun _ => 0 := by funext a; fin_cases a <;> rfl
  have e4 : shapeCast S9x2048 (View.readAt (Elt Ideal) arg5.view (Rect.unit ![0, 0] S9x2048.size inb_S9x2048_S9x2048_0_0).toLoadRect (harg5.unread x4)) shapeCasts_S9x2048_S9x2048 = x4 := by
    rw [load_unread_all arg5 harg5 x4 z2]; exact shapeCast_self _ _
  have e5 : shapeCast S512x2048 (View.readAt (Elt Ideal) arg6.view (Rect.unit ![0, 0] S512x2048.size inb_S512x2048_S512x2048_0_0).toLoadRect (harg6.unread x5)) shapeCasts_S512x2048_S512x2048 = x5 := by
    rw [load_unread_all arg6 harg6 x5 z2]; exact shapeCast_self _ _
  have e6 := load_unread_all arg7 harg7 x6 z2 inb_S1x512_S1x512_0_0
  have e7 : extractAt ![0, 0] (View.readAt (Elt Ideal) arg8.view (Rect.unit ![0, 0] S1x1.size inb_S1x1_S1x1_0_0).toLoadRect (harg8.unread x7)) inpos_S1x1_p0_0 = x7 (ix2 0 0) := by
    rw [load_unread_all arg8 harg8 x7 z2]; pointwise
  unfold out0_A_8
  rw [View.read_writes_junk_apply_eq_canon]
  have hcov := cover0_A_8 c i arg1 harg1 arg2 harg2 arg3 harg3 arg4 harg4 arg5 harg5 arg6 harg6 arg7 harg7 arg8 harg8 arg9 harg9 arg10 harg10 x0 x1 x2 x3 x4 x5 x6 x7 (ix2 r n)
  rw [run_pieces, e4, e5, e6, e7] at hcov ⊢
  refine View.canon_apply_of_pieces (fun y : S1024x24.Idx => rowLogit P (rowAt P (rows (y 0)) (xr (y 0)) (y 1).val) (xr (y 0) (y 1).val)) _
    (pieces_agree _ _ _ (fun y : S1024x24.Idx => rowLogit P (rowAt P (rows (y 0)) (xr (y 0)) (y 1).val) (xr (y 0) (y 1).val)) ?_ 24 le_rfl) (ix2 r n) hcov
  intro q r k
  have hq : 512 * q.val + r.val < 1024 := by omega
  have hxs : ∀ (n : Fin 24) (i : Fin 7), View.readAt (Elt Ideal) arg1.view (Rect.unit (s := S1024x168) ![512 * q.val, 7 * n.val] S512x7.size (inb_x q n n.isLt)).toLoadRect (harg1.unread x0) (ix2 r i)
      = xr ⟨512 * q.val + r.val, hq⟩ n.val i :=
    fun n i => (load_at arg1 harg1 x0 (inb_x q n n.isLt) r i ⟨512 * q.val + r.val, hq⟩ ⟨7 * n.val + i.val, by omega⟩ rfl rfl).trans (hx _ n i)
  have hcs : ∀ (j : Fin 4) (o : ℕ) (ho : o + 128 ≤ 512) (_ : o = 128 * j.val) (l : Fin 128),
      View.readAt (Elt Ideal) arg3.view (Rect.unit (s := S1024x512) ![512 * q.val, o] S512x128.size (inb_c q o ho)).toLoadRect (harg3.unread x2) (ix2 r l)
        = (rows ⟨512 * q.val + r.val, hq⟩).c (hcol j l) :=
    fun j o ho hj l => (load_at arg3 harg3 x2 (inb_c q o ho) r l ⟨512 * q.val + r.val, hq⟩ (hcol j l) rfl (by rw [hj]; rfl)).trans (hc _ _)
  refine logit_apply hW (R := rowAt P (rows ⟨512 * q.val + r.val, hq⟩) (xr ⟨512 * q.val + r.val, hq⟩) k.val) (holds_stateAt hW ?_ hxs k.val k.isLt.le) (hxs k)
  exact
    { h := fun k => (load_at arg2 harg2 x1 (inb_h q) r k ⟨512 * q.val + r.val, hq⟩ k rfl (Nat.zero_add _).symm).trans (hh _ k)
      c0 := hcs 0 0 (by decide) rfl
      c1 := hcs 1 128 (by decide) rfl
      c2 := hcs 2 256 (by decide) rfl
      c3 := hcs 3 384 (by decide) rfl
      y := (load_at arg4 harg4 x3 (inb_y q) r 0 ⟨512 * q.val + r.val, hq⟩ 0 rfl rfl).trans (hy _) }

end Cert.KernelIdeal.Decoder
-- ==== Proof.Value.lean ====
/- The arrays the host computes for the kernel, read at coordinates. -/
module

public import proofs.«01_k».proof.Proof.Block
public import proofs.«01_k».proof.Proof.Gen.KernelIdeal.Run
public import Idealize.ShloMosaic.Lib.Claim
public import Idealize.ShloMosaic.Lib.StableHlo.RunRead

@[expose] public section

set_option maxRecDepth 16384

noncomputable section

namespace Cert.KernelIdeal.Decoder

open Cert.Decoder Cert.KernelIdeal Cert.KernelIdeal.Gen Idealize.ShloMosaic Idealize.ShloMosaic.TcCoe Idealize.SL.Sem
open Idealize.ShloMosaic.StableHlo

/-! ## The gather of columns -/

section Columns

variable {α : Type} {A B C w : ℕ}

/-- The dimension numbers of picking columns of a matrix: result column `j` is the operand's column `idx[j, 0]`. -/
abbrev colsDims (A B C : ℕ) (wf : GatherDims.WF ⟨2, ![A, B]⟩ ⟨2, ![C, 1]⟩ ⟨2, ![A, C]⟩ [0] [1] [] [1] [] 1 ![A, 1]) :
    GatherDims ⟨2, ![A, B]⟩ ⟨2, ![C, 1]⟩ ⟨2, ![A, C]⟩ where
  offsetDims := [0]
  collapsedSliceDims := [1]
  operandBatchingDims := []
  startIndicesBatchingDims := []
  startIndexMap := [1]
  indexVectorDim := 1
  sliceSizes := ![A, 1]
  wf := wf

/-- Picking columns, read at row `r` and column `j`: the operand's row `r` at the column named for `j`, an index inside the matrix. -/
theorem cols_apply (wf : GatherDims.WF ⟨2, ![A, B]⟩ ⟨2, ![C, 1]⟩ ⟨2, ![A, C]⟩ [0] [1] [] [1] [] 1 ![A, 1])
    (x : (⟨2, ![A, B]⟩ : Shape).Idx → α) (idx : IVec ⟨2, ![C, 1]⟩ w) (r : Fin A) (j : Fin C) (k : Fin B)
    (hk : (idx (ix2 j 0)).toInt = (k.val : ℤ)) :
    Host.gather (colsDims A B C wf) x idx (ix2 r j) = x (ix2 r k) := by
  unfold Host.gather
  refine congrArg x (funext fun a => Fin.ext ?_)
  show (colsDims A B C wf).start (ix2 r j) idx a + (colsDims A B C wf).batchCoord (ix2 r j) a + (colsDims A B C wf).offCoord (ix2 r j) a = _
  rw [GatherDims.batchCoord_eq_zero _ _ _ List.not_mem_nil, Nat.add_zero]
  obtain rfl | rfl : a = (0 : Fin 2) ∨ a = (1 : Fin 2) := by
    have h : ∀ a : Fin 2, a = 0 ∨ a = 1 := by decide
    exact h a
  · unfold GatherDims.start GatherDims.offCoord
    rw [dif_neg (show ¬ ((0 : Fin 2) ∈ (colsDims A B C wf).startIndexMap) from fun h => absurd (List.mem_singleton.mp h) Fin.zero_ne_one),
      dif_pos (show (0 : Fin 2) ∈ (colsDims A B C wf).sKept from (GatherDims.mem_sKept _ _).mpr
        ⟨fun h => absurd (List.mem_singleton.mp h) Fin.zero_ne_one, List.not_mem_nil⟩), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (colsDims A B C wf).startIndexMap from List.mem_singleton.mpr rfl)]
    have hsi : (colsDims A B C wf).siIdx (ix2 r j) ⟨List.idxOf (1 : Fin 2) (colsDims A B C wf).startIndexMap,
        List.idxOf_lt_length_iff.2 (List.mem_singleton.mpr rfl)⟩ = ix2 j 0 := by
      funext b
      match b with
      | ⟨0, _⟩ => rfl
      | ⟨1, _⟩ => rfl
    rw [hsi, hk, Int.toNat_natCast]
    exact Nat.min_eq_left (Nat.le_sub_one_of_lt k.isLt)

end Columns

/-! ## The kernel's column order -/

/-- The table of the kernel's gate columns: column groups outside, gates inside. -/
theorem lit_eq (k : Fin 2048) : lit0 k = BitVec.ofNat 32 (512 * ((k.val / 128) % 4) + 128 * (k.val / 512) + k.val % 128) := by
  revert k; decide +kernel

/-- The table as the host wraps it before the gather. -/
def order : IVec S2048x1 32 :=
  broadcastInDim S2048x1 ![0] bcast_S2048_S2048x1_0
    (select (cmpi .slt (fun i => lit0 (S2048.rowMajor i)) (broadcastInDim S2048 ![] bcast_S_S2048 (constantI S_ 32 0#32)))
      (addi (fun i => lit0 (S2048.rowMajor i)) (broadcastInDim S2048 ![] bcast_S_S2048 (constantI S_ 32 2048#32)))
      (fun i => lit0 (S2048.rowMajor i)))

/-- A column number is not negative as a word, so the host's wrap keeps it. -/
theorem order_word (k : Fin 2048) :
    (Scalar.select (IntOp.cmpi .slt (BitVec.ofNat 32 k.val) 0#32) (IntOp.addi (BitVec.ofNat 32 k.val) 2048#32)
      (BitVec.ofNat 32 k.val)).toInt = (k.val : ℤ) := by
  revert k; decide +kernel

/-- The wrapped table names, for the kernel's gate column, the parameters' gate column. -/
theorem order_apply (j g : Fin 4) (l : Fin 128) : (order (ix2 (kcol j g l) 0)).toInt = ((col g (hcol j l)).val : ℤ) := by
  unfold order
  pointwise
  have e : lit0 (S2048.rowMajor (ix1 (kcol j g l))) = BitVec.ofNat 32 (col g (hcol j l)).val := by
    have h : S2048.rowMajor (ix1 (kcol j g l)) = kcol j g l := Fin.ext (Shape.rowMajor_val_one _)
    rw [h, lit_eq]
    refine congrArg (BitVec.ofNat 32) ?_
    simp only [kcol, col, hcol]
    omega
  rw [e]
  exact order_word (col g (hcol j l))

section Arrays

variable (m : (ℓ : Loc nD τ sig) → Buf (Elt Ideal) ℓ) (c : Dev nD)

/-- The kernel's covariates: the argument with a batch row's steps laid end to end. -/
theorem V_v22 : V m c main_v22 = shapeCast S8192x168 (m ((c.tc : Thread nD τ).loc main_arg0)) shapeCasts_S8192x24x7_S8192x168 := by
  simp only [V, V0, List.flatten_cons, List.flatten_nil, List.append_nil]
  after_reads_simp
  try rfl
/-- The kernel's output bias, as a one by one array. -/
theorem V_v21 : V m c main_v21 = shapeCast S1x1 (m ((c.tc : Thread nD τ).loc main_arg9)) shapeCasts_S1_S1x1 := by
  simp only [V, V0, List.flatten_cons, List.flatten_nil, List.append_nil]
  after_reads_simp
  try rfl
/-- The kernel's recurrent weights: the transposed argument with its columns reordered. -/
theorem V_v20 : V m c main_v20 = truncf (F := Ideal) .bf16 (Host.gather gather_S512x2048_S2048x1_S512x2048_0_1_n_n_1_1_5121
    (transpose S512x2048 [1, 0] (m ((c.tc : Thread nD τ).loc main_arg5)) transposes_S2048x512_S512x2048_1_0) order) bitsLt_bf16_f32 := by
  simp only [V, V0, List.flatten_cons, List.flatten_nil, List.append_nil]
  after_reads_simp
  try rfl
/-- The kernel's input weights: the transposed argument over the summed biases, columns reordered. -/
theorem V_v11 : V m c main_v11 = truncf (F := Ideal) .bf16 (Host.gather gather_S9x2048_S2048x1_S9x2048_0_1_n_n_1_1_91
    (concatenate S9x2048 0 [⟨S8x2048, transpose S8x2048 [1, 0] (m ((c.tc : Thread nD τ).loc main_arg4)) transposes_S2048x8_S8x2048_1_0⟩,
      ⟨S1x2048, shapeCast S1x2048 (addf (F := Ideal) (φ := .f32) (m ((c.tc : Thread nD τ).loc main_arg6)) (m ((c.tc : Thread nD τ).loc main_arg7))) shapeCasts_S2048_S1x2048⟩]
      concatenates_S8x2048_S1x2048_S9x2048_d0) order) bitsLt_bf16_f32 := by
  simp only [V, V0, List.flatten_cons, List.flatten_nil, List.append_nil]
  after_reads_simp
  try rfl

/-- The decoder's parameters among the kernel's arguments. -/
def params : Params where
  wih := m ((c.tc : Thread nD τ).loc main_arg4)
  whh := m ((c.tc : Thread nD τ).loc main_arg5)
  bih := m ((c.tc : Thread nD τ).loc main_arg6)
  bhh := m ((c.tc : Thread nD τ).loc main_arg7)
  fcw := m ((c.tc : Thread nD τ).loc main_arg8)
  fcb := m ((c.tc : Thread nD τ).loc main_arg9)

/-- The flattened covariates: step `n`'s covariate `k` is entry `7 n + k` of its batch row. -/
theorem covs_apply (b : Fin 8192) (n : Fin 24) (k : Fin 7) :
    (V m c main_v22 : S8192x168.Idx → EReal) (ix2 b ⟨7 * n.val + k.val, by omega⟩)
      = (m ((c.tc : Thread nD τ).loc main_arg0) : S8192x24x7.Idx → EReal) (ix3 b n k) := by
  rw [V_v22]
  pointwise

/-- The kernel's output bias is the parameters'. -/
theorem bias_apply :
    (V m c main_v21 : S1x1.Idx → EReal) (ix2 0 0) = (params m c).fcb (ix1 0) := by
  rw [V_v21]
  pointwise
  rfl

/-- The kernel's recurrent weights at its column order are the parameters'. -/
theorem wh_apply (k : Fin 512) (j g : Fin 4) (l : Fin 128) :
    (V m c main_v20 : S512x2048.Idx → EReal) (ix2 k (kcol j g l)) = (params m c).whh (ix2 (col g (hcol j l)) k) := by
  rw [V_v20]
  show (Host.gather (colsDims 512 2048 2048 gather_S512x2048_S2048x1_S512x2048_0_1_n_n_1_1_5121_wf) (transpose S512x2048 [1, 0] (m ((c.tc : Thread nD τ).loc main_arg5)) transposes_S2048x512_S512x2048_1_0) order (ix2 k (kcol j g l)) : EReal) = _
  rw [cols_apply _ _ _ _ _ _ (order_apply j g l)]
  pointwise
  rfl

/-- The input weights, a row per input, with the two biases' sum as a ninth row. -/
def stacked : S9x2048.Idx → EReal :=
  concatenate S9x2048 0 [⟨S8x2048, transpose S8x2048 [1, 0] (m ((c.tc : Thread nD τ).loc main_arg4)) transposes_S2048x8_S8x2048_1_0⟩,
      ⟨S1x2048, shapeCast S1x2048 (addf (F := Ideal) (φ := .f32) (m ((c.tc : Thread nD τ).loc main_arg6)) (m ((c.tc : Thread nD τ).loc main_arg7))) shapeCasts_S2048_S1x2048⟩]
      concatenates_S8x2048_S1x2048_S9x2048_d0

/-- The kernel's input weights are the stacked ones, columns in the kernel's order. -/
theorem wx_read (r : Fin 9) (j g : Fin 4) (l : Fin 128) :
    (V m c main_v11 : S9x2048.Idx → EReal) (ix2 r (kcol j g l))
      = stacked m c (ix2 r (col g (hcol j l))) := by
  rw [V_v11]
  show (Host.gather (colsDims 9 2048 2048 gather_S9x2048_S2048x1_S9x2048_0_1_n_n_1_1_91_wf) (stacked m c) order (ix2 r (kcol j g l)) : EReal) = _
  exact cols_apply _ (stacked m c) _ _ _ _ (order_apply j g l)

/-- The first eight rows of the kernel's input weights are the parameters' input weights. -/
theorem wx_apply (k : Fin 8) (j g : Fin 4) (l : Fin 128) :
    (V m c main_v11 : S9x2048.Idx → EReal) (ix2 (k.castLE (by decide)) (kcol j g l)) = (params m c).wih (ix2 (col g (hcol j l)) k) := by
  rw [wx_read]
  unfold stacked
  pointwise
  exact dif_pos k.isLt

/-- The ninth row of the kernel's input weights is the sum of the parameters' biases. -/
theorem wb_apply (j g : Fin 4) (l : Fin 128) :
    (V m c main_v11 : S9x2048.Idx → EReal) (ix2 8 (kcol j g l))
      = (params m c).bih (ix1 (col g (hcol j l))) + (params m c).bhh (ix1 (col g (hcol j l))) := by
  rw [wx_read]
  unfold stacked
  pointwise
  rfl

/-! ## The blocks at a grid point -/

/-- Where every window's block lies at a grid point: the batch windows at the point's rows, the weights whole. -/
theorem idx : ∀ t : Fin cfg0.N, win0_0.index t = ![(grid0.coords t 0).val, 0] ∧ win0_1.index t = ![(grid0.coords t 0).val, 0] ∧
    win0_2.index t = ![(grid0.coords t 0).val, 0] ∧ win0_3.index t = ![(grid0.coords t 0).val, 0] ∧ win0_4.index t = ![0, 0] ∧
    win0_5.index t = ![0, 0] ∧ win0_6.index t = ![0, 0] ∧ win0_7.index t = ![0, 0] ∧ win0_8.index t = ![(grid0.coords t 0).val, 0] :=
  (by decide +kernel : ∀ t : Fin grid0.N, _)

/-- The batch row at row `r` of point `t`'s blocks. -/
def brow (t : Fin cfg0.N) (r : Fin 1024) : Fin 8192 := ⟨1024 * (grid0.coords t 0).val + r.val, by
  have h : (grid0.coords t 0).val < 8 := (grid0.coords t 0).isLt
  omega⟩

/-- The covariates' block at a row is the flattened covariates' batch row. -/
theorem blk0 (t : Fin cfg0.N) (r : Fin 1024) (q : Fin 168) :
    (iblk m c 0 t : S1024x168.Idx → EReal) (ix2 r q) = (V m c main_v22 : S8192x168.Idx → EReal) (ix2 (brow t r) q) := by
  blk_ext [iblk, idx t, brow]

/-- The first hidden state's block at a row is the argument's batch row. -/
theorem blk1 (t : Fin cfg0.N) (r : Fin 1024) (q : Fin 512) :
    (iblk m c 1 t : S1024x512.Idx → EReal) (ix2 r q) = (m ((c.tc : Thread nD τ).loc main_arg1) : S8192x512.Idx → EReal) (ix2 (brow t r) q) := by
  blk_ext [iblk, V, idx t, brow]

/-- The first cell state's block at a row is the argument's batch row. -/
theorem blk2 (t : Fin cfg0.N) (r : Fin 1024) (q : Fin 512) :
    (iblk m c 2 t : S1024x512.Idx → EReal) (ix2 r q) = (m ((c.tc : Thread nD τ).loc main_arg2) : S8192x512.Idx → EReal) (ix2 (brow t r) q) := by
  blk_ext [iblk, V, idx t, brow]

/-- The first output's block at a row is the argument's batch row. -/
theorem blk3 (t : Fin cfg0.N) (r : Fin 1024) :
    (iblk m c 3 t : S1024x1.Idx → EReal) (ix2 r 0) = (m ((c.tc : Thread nD τ).loc main_arg3) : S8192x1.Idx → EReal) (ix2 (brow t r) 0) := by
  blk_ext [iblk, V, idx t, brow]

/-- The block of input weights is the whole array. -/
theorem blk4 (t : Fin cfg0.N) : (iblk m c 4 t : S9x2048.Idx → EReal) = V m c main_v11 := by
  funext y; blk_ext [iblk, idx t]

/-- The block of recurrent weights is the whole array. -/
theorem blk5 (t : Fin cfg0.N) : (iblk m c 5 t : S512x2048.Idx → EReal) = V m c main_v20 := by
  funext y; blk_ext [iblk, idx t]

/-- The block of output weights is the whole argument. -/
theorem blk6 (t : Fin cfg0.N) : (iblk m c 6 t : S1x512.Idx → EReal) = m ((c.tc : Thread nD τ).loc main_arg8) := by
  funext y; blk_ext [iblk, V, idx t]

/-- The block of the output bias is the whole array. -/
theorem blk7 (t : Fin cfg0.N) : (iblk m c 7 t : S1x1.Idx → EReal) = V m c main_v21 := by
  funext y; blk_ext [iblk, idx t]

/-- At every grid point the weights staged for the body are the parameters in the kernel's order. -/
theorem agrees (t : Fin cfg0.N) :
    Agrees { wx := iblk m c 4 t, wh := iblk m c 5 t, fw := iblk m c 6 t, fb := (iblk m c 7 t : S1x1.Idx → EReal) (ix2 0 0) } (params m c) where
  wh k j g l := (congrFun (blk5 m c t) _).trans (wh_apply m c k j g l)
  wx k j g l := (congrFun (blk4 m c t) _).trans (wx_apply m c k j g l)
  wb j g l := (congrFun (blk4 m c t) _).trans (wb_apply m c j g l)
  fw k := congrFun (blk6 m c t) _
  fb := (congrFun (blk7 m c t) _).trans (bias_apply m c)

/-- The decoded sequences as the kernel's result array holds them, a row per batch row. -/
def table : S8192x24.Idx → EReal := fun i =>
  decodedAt (params m c) (m ((c.tc : Thread nD τ).loc main_arg0)) (m ((c.tc : Thread nD τ).loc main_arg1))
    (m ((c.tc : Thread nD τ).loc main_arg2)) (m ((c.tc : Thread nD τ).loc main_arg3)) (i 0) (i 1).val

/-- What a grid point stores: the decoded sequences of its rows. -/
theorem stored (t : Fin cfg0.N) (r : Fin 1024) (n : Fin 24) :
    (outsAt0 m c t : S1024x24.Idx → EReal) (ix2 r n) = table m c (ix2 (brow t r) n) := by
  unfold outsAt0
  refine (out_apply c _ _ _ _ _ _ _ _ _ _ _ _ _ _ _ _ _ _ _ _ _ _ _ _ _ _ _ _ _ (params m c)
    (fun r => rowOf (m ((c.tc : Thread nD τ).loc main_arg1)) (m ((c.tc : Thread nD τ).loc main_arg2)) (m ((c.tc : Thread nD τ).loc main_arg3)) (brow t r))
    (fun r => covs (m ((c.tc : Thread nD τ).loc main_arg0)) (brow t r)) ?_ ?_ ?_ ?_ (agrees m c t) r n).trans ?_
  · intro r n k
    refine (blk0 m c t r _).trans ((covs_apply m c (brow t r) n k).trans ?_)
    unfold covs
    rw [dif_pos n.isLt]
  · exact fun r k => blk1 m c t r k
  · exact fun r k => blk2 m c t r k
  · exact fun r => blk3 m c t r
  · rfl

/-- The kernel's result array: the decoded sequences. -/
theorem final : (dats m 0 c).arrAt 8 (cfgs 0).N = table m c := by
  refine (dats m 0 c).arrAt_eq_of_covers 8 _ (by decide +kernel) fun t _ y => ?_
  blk_simp
  rw [after0_8]
  have hy : (y : S1024x24.Idx) = ix2 (y 0) (y 1) := (ix2_eta y).symm
  refine (congrArg (outsAt0 m c t) hy).trans ((stored m c t (y 0) (y 1)).trans ?_)
  blk_ext [idx t, brow]

/-- What the kernel program returns: the decoded sequences, with a trailing unit axis. -/
theorem result : broadcastInDim S8192x24x1 ![0, 1] bcast_S8192x24_S8192x24x1_0_1 (Value.reg_main_v23 m c)
    = decoded (params m c) (m ((c.tc : Thread nD τ).loc main_arg0)) (m ((c.tc : Thread nD τ).loc main_arg1))
      (m ((c.tc : Thread nD τ).loc main_arg2)) (m ((c.tc : Thread nD τ).loc main_arg3)) := by
  have h : Value.reg_main_v23 m c = table m c := final m c
  rw [h]
  funext i
  obtain ⟨b, n, z, rfl⟩ : ∃ b n z, i = ix3 b n z := ⟨i 0, i 1, i 2, (ix3_eta i).symm⟩
  pointwise
  rfl

end Arrays

end Cert.KernelIdeal.Decoder
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.ReferenceIdeal.Run
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, leaves its arguments unchanged, and has no counter that could be other than zero. -/
theorem referenceFrame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- On equal arguments the reference and the kernel return the same array in exact arithmetic: the decoded sequences. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.Decoder.decoded (Cert.KernelIdeal.Decoder.params m c) (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)),
    (θ_run _ _ _).mono (fun _ h c => ⟨(h c).1.trans (Cert.KernelIdeal.Decoder.result m c), (h c).2⟩) (Cert.KernelIdeal.Value.run m g),
    (θ_run _ _ _).mono (fun _ h c => ⟨(h c).1.trans ((Cert.ReferenceIdeal.Decoder.out_eq m' c).trans (by
      obtain ⟨h0, h1, h2, h3, h4, h5, h6, h7, h8, h9⟩ := hargs c
      unfold Cert.ReferenceIdeal.Decoder.params Cert.KernelIdeal.Decoder.params
      rw [h0, h1, h2, h3, h4, h5, h6, h7, h8, h9])), (h c).2⟩) (Cert.ReferenceIdeal.Value.run m' g')⟩

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, referenceFrame, trivial, algebraic⟩

end Cert.Proof

end
